-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x256 : Shape := ⟨2, ![16384, 256]⟩
abbrev S16384x3 : Shape := ⟨2, ![16384, 3]⟩
abbrev S_ : Shape := ⟨0, ![]⟩
abbrev S256x256 : Shape := ⟨2, ![256, 256]⟩
abbrev S256 : Shape := ⟨1, ![256]⟩
abbrev S256x2 : Shape := ⟨2, ![256, 2]⟩
abbrev S2 : Shape := ⟨1, ![2]⟩
abbrev S1x256 : Shape := ⟨2, ![1, 256]⟩
abbrev S1024x256 : Shape := ⟨2, ![1024, 256]⟩

abbrev nBuf : Space → Nat
  | .hbm => 11
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S16384x3, .i32⟩
  | .hbm, ⟨2, _⟩ => ⟨S_, .i32⟩
  | .hbm, ⟨3, _⟩ => ⟨S256x256, .f32⟩
  | .hbm, ⟨4, _⟩ => ⟨S256, .f32⟩
  | .hbm, ⟨5, _⟩ => ⟨S256x2, .f32⟩
  | .hbm, ⟨6, _⟩ => ⟨S2, .f32⟩
  | .hbm, ⟨7, _⟩ => ⟨S256x256, .f32⟩
  | .hbm, ⟨8, _⟩ => ⟨S256, .f32⟩
  | .hbm, ⟨9, _⟩ => ⟨S1x256, .f32⟩
  | .hbm, ⟨10, _⟩ => ⟨S16384x256, .f32⟩
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S1x256, .f32⟩
  | .local _ .vmem, ⟨4, _⟩ => ⟨S1024x256, .f32⟩
  | .local _ .vmem, ⟨5, _⟩ => ⟨S1024x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16384x256 : Shape := ⟨2, ![16384, 256]⟩
abbrev S16384x3 : Shape := ⟨2, ![16384, 3]⟩
abbrev S_ : Shape := ⟨0, ![]⟩
abbrev S256x256 : Shape := ⟨2, ![256, 256]⟩
abbrev S256 : Shape := ⟨1, ![256]⟩
abbrev S256x2 : Shape := ⟨2, ![256, 2]⟩
abbrev S2 : Shape := ⟨1, ![2]⟩
abbrev S1x256 : Shape := ⟨2, ![1, 256]⟩

abbrev nBuf : Space → Nat
  | .hbm => 13
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x3, .i32⟩
  | .hbm, ⟨2, _⟩ => ⟨S_, .i32⟩
  | .hbm, ⟨3, _⟩ => ⟨S256x256, .f32⟩
  | .hbm, ⟨4, _⟩ => ⟨S256, .f32⟩
  | .hbm, ⟨5, _⟩ => ⟨S256x2, .f32⟩
  | .hbm, ⟨6, _⟩ => ⟨S2, .f32⟩
  | .hbm, ⟨7, _⟩ => ⟨S256x256, .f32⟩
  | .hbm, ⟨8, _⟩ => ⟨S256, .f32⟩
  | .hbm, ⟨9, _⟩ => ⟨S16384x256, .f32⟩
  | .hbm, ⟨10, _⟩ => ⟨S1x256, .f32⟩
  | .hbm, ⟨11, _⟩ => ⟨S16384x256, .f32⟩
  | .hbm, ⟨12, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩

abbrev nD : Nat := 1
abbrev τ : Topo := Topo.v7x

variable {F : FTy → Type} [FloatOps F]
-- ==== Proof.Layer.lean ====
/-
  The per-point linear layer, as one function of its three arrays: entry `(n, o)` is the product of row `n` of `x`
  with column `o` of `w`, plus entry `o` of the bias. Both programs are shown to compute this function.
-/
module

public import Idealize.ShloMosaic.Lib.Pointwise

@[expose] public section

noncomputable section

namespace Cert.Layer

open Idealize.ShloMosaic

/-- The linear layer over the extended reals, for any number of points: `∑ k, x (n, k) * w (k, o) + b o`. -/
def layer {N : Nat} (x : FVec Ideal ⟨2, ![N, 256]⟩ .f32) (w : FVec Ideal ⟨2, ![256, 256]⟩ .f32)
    (b : FVec Ideal ⟨1, ![256]⟩ .f32) : FVec Ideal ⟨2, ![N, 256]⟩ .f32 :=
  fun j => (∑ k : Fin 256, x (ix2 (j 0) k) * w (ix2 k (j 1)) : EReal) + b (ix1 (j 1))

/-- An entry of the layer depends on one row of the features, one column of the weight and one entry of the bias. -/
theorem layer_congr {N N' : Nat} {x : FVec Ideal ⟨2, ![N, 256]⟩ .f32} {x' : FVec Ideal ⟨2, ![N', 256]⟩ .f32}
    {w w' : FVec Ideal ⟨2, ![256, 256]⟩ .f32} {b b' : FVec Ideal ⟨1, ![256]⟩ .f32}
    {j : (⟨2, ![N, 256]⟩ : Shape).Idx} {j' : (⟨2, ![N', 256]⟩ : Shape).Idx}
    (hx : ∀ k : Fin 256, x (ix2 (j 0) k) = x' (ix2 (j' 0) k))
    (hw : ∀ k : Fin 256, w (ix2 k (j 1)) = w' (ix2 k (j' 1))) (hb : b (ix1 (j 1)) = b' (ix1 (j' 1))) :
    layer x w b j = layer x' w' b' j' := by
  show (_ : EReal) = _
  unfold layer
  rw [hb, Finset.sum_congr rfl fun k _ => by rw [hx k, hw k]]

end Cert.Layer

end
-- ==== Proof.Block.lean ====
/-
  What one grid point computes: the kernel's body, on a block of 1024 points, the whole weight and the bias row, leaves
  in its output block the linear layer of that block.
-/
module

public import proofs.«01_k».proof.Proof.Layer
public import proofs.«01_k».proof.Proof.Gen.KernelIdeal.Frame

@[expose] public section

noncomputable section

namespace Cert.Block

open Cert.KernelIdeal Cert.KernelIdeal.Gen Cert.Layer Idealize.ShloMosaic

/-- Every load and store of the body starts at offset zero on both axes. -/
theorem offsets_zero : (![0, 0] : Fin 2 → Nat) = fun _ => 0 := by
  funext a
  match a with
  | ⟨0, _⟩ => rfl
  | ⟨1, _⟩ => rfl

/-- The value that the body stores is the linear layer of the three values that it loads. -/
theorem stored_eq_layer (x : FVec Ideal S1024x256 .f32) (w : FVec Ideal S256x256 .f32) (r : FVec Ideal S1x256 .f32) :
    k0_pay1 (F := Ideal) x w r = layer x w (fun o => r (ix2 0 (o 0))) := by
  funext j
  pointwise [k0_pay1, layer]

/-- The body's one store fills the output block, and its loads read the whole input blocks: the output block ends as
    the linear layer of the input blocks. -/
theorem out_eq_layer (x : FVec Ideal S1024x256 .f32) (w : FVec Ideal S256x256 .f32) (r : FVec Ideal S1x256 .f32) :
    out0_3 (F := Ideal) x w r = layer x w (fun o => r (ix2 0 (o 0))) := by
  unfold out0_3
  rw [View.canon_unit_zero offsets_zero, View.ld_unit_zero offsets_zero, View.ld_unit_zero offsets_zero,
    View.ld_unit_zero offsets_zero]
  exact stored_eq_layer x w r

end Cert.Block

end
-- ==== Proof.Array.lean ====
/-
  What the result array holds after the kernel's run: point `t` writes back rows `1024 t` to `1024 t + 1023` of the
  linear layer of the argument arrays, and the sixteen blocks cover the array, so the whole array ends as that layer.
-/
module

public import proofs.«01_k».proof.Proof.Block
public import proofs.«01_k».proof.Proof.Gen.KernelIdeal.Value
public import Idealize.ShloMosaic.Lib.Claim

@[expose] public section

noncomputable section

namespace Cert.Array

open Cert.KernelIdeal Cert.KernelIdeal.Gen Cert.Layer Idealize.ShloMosaic Idealize.ShloMosaic.TcCoe Idealize.SL.Sem

variable (m : (ℓ : Loc nD τ sig) → Buf (Elt Ideal) ℓ) (ρ : Dev nD → PrngReg)

/-- The linear layer of device `c`'s three argument arrays: features, weight and bias. -/
abbrev result (c : Dev nD) : Buf (Elt Ideal) ((c : Thread nD τ).loc main_v1) :=
  layer (N := 16384) (m ((c : Thread nD τ).loc main_arg0)) (m ((c : Thread nD τ).loc main_arg3))
    (m ((c : Thread nD τ).loc main_arg4))

/-- Where the windows are at point `t`: the features' and the result's at block `t` of the rows, the weight's and the
    bias row's at their only block. -/
theorem windows_at : ∀ t : Fin cfg0.N,
    (win0_0.index t 0 = t.val ∧ win0_0.index t 1 = 0) ∧ (win0_1.index t 0 = 0 ∧ win0_1.index t 1 = 0)
      ∧ (win0_2.index t 0 = 0 ∧ win0_2.index t 1 = 0) ∧ (win0_3.index t 0 = t.val ∧ win0_3.index t 1 = 0) :=
  (by decide +kernel : ∀ t : Fin grid0.N,
    (win0_0.index t 0 = t.val ∧ win0_0.index t 1 = 0) ∧ (win0_1.index t 0 = 0 ∧ win0_1.index t 1 = 0)
      ∧ (win0_2.index t 0 = 0 ∧ win0_2.index t 1 = 0) ∧ (win0_3.index t 0 = t.val ∧ win0_3.index t 1 = 0))

/-- Row `r` of block `t` is row `1024 t + r` of the array. -/
def row (t : Fin cfg0.N) (r : Fin 1024) : Fin 16384 :=
  ⟨t.val * 1024 + r.val, by have := t.isLt; have h : cfg0.N = 16 := N_0; have := r.isLt; omega⟩

/-- The features' block at point `t` is rows `1024 t …` of the features. -/
theorem features_block (c : Dev nD) (t : Fin cfg0.N) (r : Fin 1024) (k : Fin 256) :
    (iblk m c 0 t : Vec Ideal S1024x256 .f32) (ix2 r k)
      = (m ((c : Thread nD τ).loc main_arg0) : Vec Ideal S16384x256 .f32) (ix2 (row t r) k) := by
  have hw := (windows_at t).1
  unfold iblk
  rw [View.read_apply]
  show V m c main_arg0 _ = _
  rw [V_main_arg0]
  congr 1
  funext a
  apply Fin.ext
  match a with
  | ⟨0, _⟩ => show win0_0.index t 0 * 1024 + 1 * r.val = t.val * 1024 + r.val; rw [hw.1]; omega
  | ⟨1, _⟩ => show win0_0.index t 1 * 256 + 1 * k.val = k.val; rw [hw.2]; omega

/-- The weight's block is the whole weight at every point. -/
theorem weight_block (c : Dev nD) (t : Fin cfg0.N) (k o : Fin 256) :
    (iblk m c 1 t : Vec Ideal S256x256 .f32) (ix2 k o)
      = (m ((c : Thread nD τ).loc main_arg3) : Vec Ideal S256x256 .f32) (ix2 k o) := by
  have hw := (windows_at t).2.1
  unfold iblk
  rw [View.read_apply]
  show V m c main_arg3 _ = _
  rw [V_main_arg3]
  congr 1
  funext a
  apply Fin.ext
  match a with
  | ⟨0, _⟩ => show win0_1.index t 0 * 256 + 1 * k.val = k.val; rw [hw.1]; omega
  | ⟨1, _⟩ => show win0_1.index t 1 * 256 + 1 * o.val = o.val; rw [hw.2]; omega

/-- The bias row that the launch reads is the bias, laid out by the host as a matrix of one row. -/
theorem bias_row (c : Dev nD) (o : Fin 256) :
    (V m c main_v0 : Vec Ideal S1x256 .f32) (ix2 0 o)
      = (m ((c : Thread nD τ).loc main_arg4) : Vec Ideal S256 .f32) (ix1 o) := by
  entry_read
  pointwise

/-- The bias's block is that row at every point. -/
theorem bias_block (c : Dev nD) (t : Fin cfg0.N) (o : Fin 256) :
    (iblk m c 2 t : Vec Ideal S1x256 .f32) (ix2 0 o)
      = (m ((c : Thread nD τ).loc main_arg4) : Vec Ideal S256 .f32) (ix1 o) := by
  have hw := (windows_at t).2.2.1
  rw [← bias_row m c o]
  unfold iblk
  rw [View.read_apply]
  show V m c main_v0 _ = _
  congr 1
  funext a
  apply Fin.ext
  match a with
  | ⟨0, _⟩ => show win0_2.index t 0 * 1 + 1 * 0 = 0; rw [hw.1]
  | ⟨1, _⟩ => show win0_2.index t 1 * 256 + 1 * o.val = o.val; rw [hw.2]; omega

/-- What point `t` writes back is block `t` of the layer of the whole arrays. -/
theorem written_back (c : Dev nD) (t : Fin cfg0.N) :
    (dats m 0 c).flushed 3 t = ((cfg0.win 3).blk t).view.read (Elt Ideal) (result m c) := by
  have hw := (windows_at t).2.2.2
  rw [Value.flushed3, Block.out_eq_layer]
  funext j
  have hj : ((cfg0.win 3).blk t).view.emb j = (ix2 (row t (j 0)) (j 1) : S16384x256.Idx) := by
    funext a
    apply Fin.ext
    match a with
    | ⟨0, _⟩ => show win0_3.index t 0 * 1024 + 1 * (j 0).val = t.val * 1024 + (j 0).val; rw [hw.1]; omega
    | ⟨1, _⟩ => show win0_3.index t 1 * 256 + 1 * (j 1).val = (j 1).val; rw [hw.2]; omega
  rw [View.read_apply, hj]
  exact layer_congr (fun k => features_block m c t (j 0) k) (fun k => weight_block m c t k (j 1))
    (bias_block m c t (j 1))

/-- Row `n` of the result array is in the block that point `n / 1024` writes back. -/
theorem covered (i : S16384x256.Idx) :
    ∃ t : Fin cfg0.N, (cfg0.win 3).flush t = true ∧ i ∈ ((cfg0.win 3).blk t).view.set := by
  have hN : cfg0.N = 16 := N_0
  have h0 : (i 0 : Nat) < 16384 := (i 0).isLt
  have h1 : (i 1 : Nat) < 256 := (i 1).isLt
  obtain ⟨t, ht⟩ : ∃ t : Fin cfg0.N, t.val = (i 0 : Nat) / 1024 := ⟨⟨(i 0 : Nat) / 1024, by omega⟩, rfl⟩
  refine ⟨t, flush0_3 t, ?_⟩
  have hw := (windows_at t).2.2.2
  show i ∈ ((View.whole main_v1).slice (win0_3.rect t)).set
  rw [View.set_slice_whole, Rect.mem_set_unit]
  intro a
  match a with
  | ⟨0, _⟩ =>
    show win0_3.index t 0 * 1024 ≤ (i 0 : Nat) ∧ (i 0 : Nat) < win0_3.index t 0 * 1024 + 1024
    rw [hw.1, ht]; omega
  | ⟨1, _⟩ =>
    show win0_3.index t 1 * 256 ≤ (i 1 : Nat) ∧ (i 1 : Nat) < win0_3.index t 1 * 256 + 256
    rw [hw.2]; omega

/-- After the last point the result array is the linear layer of the argument arrays. -/
theorem array_eq_result (c : Dev nD) : (dats m 0 c).arrAt 3 cfg0.N = result m c :=
  (dats m 0 c).arrAt_eq_of_cover 3 (result m c) (fun t _ => written_back m c t) covered

end Cert.Array

end
-- ==== Proof.Plain.lean ====
/-
  What the reference computes: jnp's `x @ w + b` on the host is the linear layer of `Layer`.
-/
module

public import proofs.«01_k».proof.Proof.Layer
public import proofs.«01_k».proof.Proof.Gen.ReferenceIdeal

@[expose] public section

noncomputable section

namespace Cert.Plain

open Cert.ReferenceIdeal Cert.ReferenceIdeal.Gen Cert.Layer Idealize.ShloMosaic

/-- The host's product of the whole arrays, with the bias repeated along the points and added, is the linear layer. -/
theorem host_eq_layer (x : FVec Ideal S16384x256 .f32) (w : FVec Ideal S256x256 .f32) (b : FVec Ideal S256 .f32) :
    addf (Host.dotGeneral dot_S16384x256_S256x256_S16384x256_1_0_0_1_n_n none x w)
      (broadcastInDim S16384x256 ![0, 1] bcast_S1x256_S16384x256_0_1 (broadcastInDim S1x256 ![1] bcast_S256_S1x256_1 b))
      = layer x w b := by
  funext j
  pointwise [layer]

end Cert.Plain

end
-- ==== Proof.lean ====
/-
  The certificate of the tiled linear layer: the kernel and its reading over the extended reals run without fault and
  leave their arguments unchanged, and over the extended reals the kernel computes the function that the reference does.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Array
public import proofs.«01_k».proof.Proof.Plain
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference, a host program without semaphores, runs without fault and leaves its arguments unchanged. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Over the extended reals, the kernel's result array and the reference's are the linear layer of the same arguments. -/
theorem same_function : Cert.algebraic_KernelIdeal_ReferenceIdeal := by
  intro m ρ m' ρ' _ hagree
  refine ⟨fun c => Cert.Array.result m c, ?_, ?_⟩
  · exact (θ_run Cert.KernelIdeal.defs _ _).mono
      (fun _ h c => ⟨(h c).1.trans (Cert.Array.array_eq_result m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨hx, _, _, hw, hb, _⟩ := hagree c
    rw [hx, hw, hb]
    exact Cert.Plain.host_eq_layer _ _ _

/-- Everything the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial,
    same_function⟩

end Cert.Proof

end
